-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x64x64 : Shape := ⟨4, ![8, 256, 64, 64]⟩
abbrev S256x256x3x3 : Shape := ⟨4, ![256, 256, 3, 3]⟩
abbrev S256 : Shape := ⟨1, ![256]⟩
abbrev S65x256x1x1 : Shape := ⟨4, ![65, 256, 1, 1]⟩
abbrev S65 : Shape := ⟨1, ![65]⟩
abbrev S8x256x4096 : Shape := ⟨3, ![8, 256, 4096]⟩
abbrev S8x4096x256 : Shape := ⟨3, ![8, 4096, 256]⟩
abbrev S3x3x256x256 : Shape := ⟨4, ![3, 3, 256, 256]⟩
abbrev S9x256x256 : Shape := ⟨3, ![9, 256, 256]⟩
abbrev S65x256 : Shape := ⟨2, ![65, 256]⟩
abbrev S256x65 : Shape := ⟨2, ![256, 65]⟩
abbrev S1x256 : Shape := ⟨2, ![1, 256]⟩
abbrev S1x65 : Shape := ⟨2, ![1, 65]⟩
abbrev S8x512x512 : Shape := ⟨3, ![8, 512, 512]⟩
abbrev S1x4096x256 : Shape := ⟨3, ![1, 4096, 256]⟩
abbrev S1x512x512 : Shape := ⟨3, ![1, 512, 512]⟩
abbrev S4096x64 : Shape := ⟨2, ![4096, 64]⟩
abbrev S64x64x8x8 : Shape := ⟨4, ![64, 64, 8, 8]⟩
abbrev S64x8x64x8 : Shape := ⟨4, ![64, 8, 64, 8]⟩
abbrev S512x512 : Shape := ⟨2, ![512, 512]⟩
abbrev S4096x256 : Shape := ⟨2, ![4096, 256]⟩
abbrev S4096x1 : Shape := ⟨2, ![4096, 1]⟩
abbrev S1x256x256 : Shape := ⟨3, ![1, 256, 256]⟩
abbrev S256x256 : Shape := ⟨2, ![256, 256]⟩
abbrev S4031x256 : Shape := ⟨2, ![4031, 256]⟩
abbrev S4032x256 : Shape := ⟨2, ![4032, 256]⟩
abbrev S64x256 : Shape := ⟨2, ![64, 256]⟩
abbrev S4033x256 : Shape := ⟨2, ![4033, 256]⟩
abbrev S63x256 : Shape := ⟨2, ![63, 256]⟩
abbrev S4095x256 : Shape := ⟨2, ![4095, 256]⟩
abbrev S4096x65 : Shape := ⟨2, ![4096, 65]⟩
abbrev S4096 : Shape := ⟨1, ![4096]⟩
abbrev S8x1x512x512 : Shape := ⟨4, ![8, 1, 512, 512]⟩

abbrev nBuf : Space → Nat
  | .hbm => 17
  | .vmem => 9
  | .smem => 0
  | _ => 0

abbrev bufTy : (tb : Table) → Fin (tcTables nBuf tb) → BufTy
  | .hbm, ⟨0, _⟩ => ⟨S8x256x64x64, .f32⟩
  | .hbm, ⟨1, _⟩ => ⟨S256x256x3x3, .f32⟩
  | .hbm, ⟨2, _⟩ => ⟨S256, .f32⟩
  | .hbm, ⟨3, _⟩ => ⟨S65x256x1x1, .f32⟩
  | .hbm, ⟨4, _⟩ => ⟨S65, .f32⟩
  | .hbm, ⟨5, _⟩ => ⟨S8x256x4096, .f32⟩
  | .hbm, ⟨6, _⟩ => ⟨S8x4096x256, .f32⟩
  | .hbm, ⟨7, _⟩ => ⟨S3x3x256x256, .f32⟩
  | .hbm, ⟨8, _⟩ => ⟨S9x256x256, .f32⟩
  | .hbm, ⟨9, _⟩ => ⟨S9x256x256, .bf16⟩
  | .hbm, ⟨10, _⟩ => ⟨S65x256, .f32⟩
  | .hbm, ⟨11, _⟩ => ⟨S256x65, .f32⟩
  | .hbm, ⟨12, _⟩ => ⟨S256x65, .bf16⟩
  | .hbm, ⟨13, _⟩ => ⟨S1x256, .f32⟩
  | .hbm, ⟨14, _⟩ => ⟨S1x65, .f32⟩
  | .hbm, ⟨15, _⟩ => ⟨S8x512x512, .f32⟩
  | .hbm, ⟨16, _⟩ => ⟨S8x1x512x512, .f32⟩
  | .local _ .vmem, ⟨0, _⟩ => ⟨S1x4096x256, .f32⟩
  | .local _ .vmem, ⟨1, _⟩ => ⟨S1x4096x256, .f32⟩
  | .local _ .vmem, ⟨2, _⟩ => ⟨S9x256x256, .bf16⟩
  | .local _ .vmem, ⟨3, _⟩ => ⟨S1x256, .f32⟩
  | .local _ .vmem, ⟨4, _⟩ => ⟨S256x65, .bf16⟩
  | .local _ .vmem, ⟨5, _⟩ => ⟨S1x65, .f32⟩
  | .local _ .vmem, ⟨6, _⟩ => ⟨S1x512x512, .f32⟩
  | .local _ .vmem, ⟨7, _⟩ => ⟨S1x512x512, .f32⟩
  | .local _ .vmem, ⟨8, _⟩ => ⟨S4096x64, .bf16⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x65 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x65 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x256x64x64 : Shape := ⟨4, ![8, 256, 64, 64]⟩
abbrev S256x256x3x3 : Shape := ⟨4, ![256, 256, 3, 3]⟩
abbrev S256 : Shape := ⟨1, ![256]⟩
abbrev S65x256x1x1 : Shape := ⟨4, ![65, 256, 1, 1]⟩
abbrev S65 : Shape := ⟨1, ![65]⟩
abbrev S_ : Shape := ⟨0, ![]⟩
abbrev S8x256x66x66 : Shape := ⟨4, ![8, 256, 66, 66]⟩
abbrev S256x256x1x1 : Shape := ⟨4, ![256, 256, 1, 1]⟩
abbrev S256x256 : Shape := ⟨2, ![256, 256]⟩
abbrev S256x8x64x64 : Shape := ⟨4, ![256, 8, 64, 64]⟩
abbrev S1x256x1x1 : Shape := ⟨4, ![1, 256, 1, 1]⟩
abbrev S65x256 : Shape := ⟨2, ![65, 256]⟩
abbrev S65x8x64x64 : Shape := ⟨4, ![65, 8, 64, 64]⟩
abbrev S8x65x64x64 : Shape := ⟨4, ![8, 65, 64, 64]⟩
abbrev S1x65x1x1 : Shape := ⟨4, ![1, 65, 1, 1]⟩
abbrev S8x64x64 : Shape := ⟨3, ![8, 64, 64]⟩
abbrev S8x1x64x64 : Shape := ⟨4, ![8, 1, 64, 64]⟩
abbrev S8x64x64x64 : Shape := ⟨4, ![8, 64, 64, 64]⟩
abbrev S8x1x8x8x64x64 : Shape := ⟨6, ![8, 1, 8, 8, 64, 64]⟩
abbrev S8x1x64x8x64x8 : Shape := ⟨6, ![8, 1, 64, 8, 64, 8]⟩
abbrev S8x1x512x512 : Shape := ⟨4, ![8, 1, 512, 512]⟩

abbrev nBuf : Space → Nat
  | .hbm => 94
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S256x256x3x3, .f32⟩
  | .hbm, ⟨2, _⟩ => ⟨S256, .f32⟩
  | .hbm, ⟨3, _⟩ => ⟨S65x256x1x1, .f32⟩
  | .hbm, ⟨4, _⟩ => ⟨S65, .f32⟩
  | .hbm, ⟨5, _⟩ => ⟨S_, .i32⟩
  | .hbm, ⟨6, _⟩ => ⟨S_, .f32⟩
  | .hbm, ⟨7, _⟩ => ⟨S8x256x66x66, .f32⟩
  | .hbm, ⟨8, _⟩ => ⟨S8x256x64x64, .f32⟩
  | .hbm, ⟨9, _⟩ => ⟨S256x256x1x1, .f32⟩
  | .hbm, ⟨10, _⟩ => ⟨S256x256, .f32⟩
  | .hbm, ⟨11, _⟩ => ⟨S256x8x64x64, .f32⟩
  | .hbm, ⟨12, _⟩ => ⟨S8x256x64x64, .f32⟩
  | .hbm, ⟨13, _⟩ => ⟨S_, .f32⟩
  | .hbm, ⟨14, _⟩ => ⟨S8x256x64x64, .f32⟩
  | .hbm, ⟨15, _⟩ => ⟨S8x256x64x64, .f32⟩
  | .hbm, ⟨16, _⟩ => ⟨S8x256x64x64, .f32⟩
  | .hbm, ⟨17, _⟩ => ⟨S256x256x1x1, .f32⟩
  | .hbm, ⟨18, _⟩ => ⟨S256x256, .f32⟩
  | .hbm, ⟨19, _⟩ => ⟨S256x8x64x64, .f32⟩
  | .hbm, ⟨20, _⟩ => ⟨S8x256x64x64, .f32⟩
  | .hbm, ⟨21, _⟩ => ⟨S8x256x64x64, .f32⟩
  | .hbm, ⟨22, _⟩ => ⟨S8x256x64x64, .f32⟩
  | .hbm, ⟨23, _⟩ => ⟨S256x256x1x1, .f32⟩
  | .hbm, ⟨24, _⟩ => ⟨S256x256, .f32⟩
  | .hbm, ⟨25, _⟩ => ⟨S256x8x64x64, .f32⟩
  | .hbm, ⟨26, _⟩ => ⟨S8x256x64x64, .f32⟩
  | .hbm, ⟨27, _⟩ => ⟨S8x256x64x64, .f32⟩
  | .hbm, ⟨28, _⟩ => ⟨S8x256x64x64, .f32⟩
  | .hbm, ⟨29, _⟩ => ⟨S256x256x1x1, .f32⟩
  | .hbm, ⟨30, _⟩ => ⟨S256x256, .f32⟩
  | .hbm, ⟨31, _⟩ => ⟨S256x8x64x64, .f32⟩
  | .hbm, ⟨32, _⟩ => ⟨S8x256x64x64, .f32⟩
  | .hbm, ⟨33, _⟩ => ⟨S8x256x64x64, .f32⟩
  | .hbm, ⟨34, _⟩ => ⟨S8x256x64x64, .f32⟩
  | .hbm, ⟨35, _⟩ => ⟨S256x256x1x1, .f32⟩
  | .hbm, ⟨36, _⟩ => ⟨S256x256, .f32⟩
  | .hbm, ⟨37, _⟩ => ⟨S256x8x64x64, .f32⟩
  | .hbm, ⟨38, _⟩ => ⟨S8x256x64x64, .f32⟩
  | .hbm, ⟨39, _⟩ => ⟨S8x256x64x64, .f32⟩
  | .hbm, ⟨40, _⟩ => ⟨S8x256x64x64, .f32⟩
  | .hbm, ⟨41, _⟩ => ⟨S256x256x1x1, .f32⟩
  | .hbm, ⟨42, _⟩ => ⟨S256x256, .f32⟩
  | .hbm, ⟨43, _⟩ => ⟨S256x8x64x64, .f32⟩
  | .hbm, ⟨44, _⟩ => ⟨S8x256x64x64, .f32⟩
  | .hbm, ⟨45, _⟩ => ⟨S8x256x64x64, .f32⟩
  | .hbm, ⟨46, _⟩ => ⟨S8x256x64x64, .f32⟩
  | .hbm, ⟨47, _⟩ => ⟨S256x256x1x1, .f32⟩
  | .hbm, ⟨48, _⟩ => ⟨S256x256, .f32⟩
  | .hbm, ⟨49, _⟩ => ⟨S256x8x64x64, .f32⟩
  | .hbm, ⟨50, _⟩ => ⟨S8x256x64x64, .f32⟩
  | .hbm, ⟨51, _⟩ => ⟨S8x256x64x64, .f32⟩
  | .hbm, ⟨52, _⟩ => ⟨S8x256x64x64, .f32⟩
  | .hbm, ⟨53, _⟩ => ⟨S256x256x1x1, .f32⟩
  | .hbm, ⟨54, _⟩ => ⟨S256x256, .f32⟩
  | .hbm, ⟨55, _⟩ => ⟨S256x8x64x64, .f32⟩
  | .hbm, ⟨56, _⟩ => ⟨S8x256x64x64, .f32⟩
  | .hbm, ⟨57, _⟩ => ⟨S8x256x64x64, .f32⟩
  | .hbm, ⟨58, _⟩ => ⟨S8x256x64x64, .f32⟩
  | .hbm, ⟨59, _⟩ => ⟨S256x256x1x1, .f32⟩
  | .hbm, ⟨60, _⟩ => ⟨S256x256, .f32⟩
  | .hbm, ⟨61, _⟩ => ⟨S256x8x64x64, .f32⟩
  | .hbm, ⟨62, _⟩ => ⟨S8x256x64x64, .f32⟩
  | .hbm, ⟨63, _⟩ => ⟨S8x256x64x64, .f32⟩
  | .hbm, ⟨64, _⟩ => ⟨S1x256x1x1, .f32⟩
  | .hbm, ⟨65, _⟩ => ⟨S8x256x64x64, .f32⟩
  | .hbm, ⟨66, _⟩ => ⟨S8x256x64x64, .f32⟩
  | .hbm, ⟨67, _⟩ => ⟨S_, .f32⟩
  | .hbm, ⟨68, _⟩ => ⟨S8x256x64x64, .f32⟩
  | .hbm, ⟨69, _⟩ => ⟨S8x256x64x64, .f32⟩
  | .hbm, ⟨70, _⟩ => ⟨S65x256, .f32⟩
  | .hbm, ⟨71, _⟩ => ⟨S65x8x64x64, .f32⟩
  | .hbm, ⟨72, _⟩ => ⟨S8x65x64x64, .f32⟩
  | .hbm, ⟨73, _⟩ => ⟨S1x65x1x1, .f32⟩
  | .hbm, ⟨74, _⟩ => ⟨S8x65x64x64, .f32⟩
  | .hbm, ⟨75, _⟩ => ⟨S8x65x64x64, .f32⟩
  | .hbm, ⟨76, _⟩ => ⟨S_, .f32⟩
  | .hbm, ⟨77, _⟩ => ⟨S8x64x64, .f32⟩
  | .hbm, ⟨78, _⟩ => ⟨S_, .f32⟩
  | .hbm, ⟨79, _⟩ => ⟨S8x64x64, .f32⟩
  | .hbm, ⟨80, _⟩ => ⟨S8x64x64, .f32⟩
  | .hbm, ⟨81, _⟩ => ⟨S8x1x64x64, .f32⟩
  | .hbm, ⟨82, _⟩ => ⟨S8x65x64x64, .f32⟩
  | .hbm, ⟨83, _⟩ => ⟨S8x65x64x64, .f32⟩
  | .hbm, ⟨84, _⟩ => ⟨S8x65x64x64, .f32⟩
  | .hbm, ⟨85, _⟩ => ⟨S_, .f32⟩
  | .hbm, ⟨86, _⟩ => ⟨S8x64x64, .f32⟩
  | .hbm, ⟨87, _⟩ => ⟨S8x1x64x64, .f32⟩
  | .hbm, ⟨88, _⟩ => ⟨S8x65x64x64, .f32⟩
  | .hbm, ⟨89, _⟩ => ⟨S8x65x64x64, .f32⟩
  | .hbm, ⟨90, _⟩ => ⟨S8x64x64x64, .f32⟩
  | .hbm, ⟨91, _⟩ => ⟨S8x1x8x8x64x64, .f32⟩
  | .hbm, ⟨92, _⟩ => ⟨S8x1x64x8x64x8, .f32⟩
  | .hbm, ⟨93, _⟩ => ⟨S8x1x512x512, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_call1_cst : Ref sig .tc := ⟨.hbm, 67, rfl⟩
abbrev main_call1_v0 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_0 : Ref sig .tc := ⟨.hbm, 76, rfl⟩
abbrev main_v66 : Ref sig .tc := ⟨.hbm, 77, rfl⟩
abbrev main_cst_1 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_2 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Spec.lean ====
/-
  The mathematics of the detector head, for one image, over the extended reals: a 3x3 convolution with a border of
  zeros, a bias and a rectifier; a 1x1 convolution with a bias; a softmax over the 65 channels. Nothing here names a
  program.
-/
module

public import Idealize.ShloMosaic.Lib.Pointwise

@[expose] public section

noncomputable section

namespace Detector

open Idealize.ShloMosaic

/-- Entry `(i, j)` of channel `c` of the image with a border of zeros, one pixel wide: rows and columns are counted
    from the border, so that pixel `(h, w)` of the image is entry `(h + 1, w + 1)`. -/
def bordered (X : Fin 256 → Fin 64 → Fin 64 → EReal) (c : Fin 256) (i j : ℕ) : EReal :=
  if h : (1 ≤ i ∧ i ≤ 64) ∧ 1 ≤ j ∧ j ≤ 64 then
    X c ⟨i - 1, by omega⟩ ⟨j - 1, by omega⟩
  else 0

/-- What the tap at `(ky, kx)` of a 3x3 filter, with channel matrix `W`, adds to output channel `o` at pixel `(h, w)`. -/
def tap (X : Fin 256 → Fin 64 → Fin 64 → EReal) (W : Fin 256 → Fin 256 → EReal) (ky kx : ℕ) (h w : Fin 64)
    (o : Fin 256) : EReal :=
  ∑ c : Fin 256, bordered X c (h.val + ky) (w.val + kx) * W c o

/-- The hidden layer: the nine taps, the bias, the rectifier. `W ky kx c o` is the filter. -/
def hidden (X : Fin 256 → Fin 64 → Fin 64 → EReal) (W : Fin 3 → Fin 3 → Fin 256 → Fin 256 → EReal)
    (b : Fin 256 → EReal) (h w : Fin 64) (o : Fin 256) : EReal :=
  max (tap X (W 0 0) 0 0 h w o + tap X (W 0 1) 0 1 h w o + tap X (W 0 2) 0 2 h w o
    + tap X (W 1 0) 1 0 h w o + tap X (W 1 1) 1 1 h w o + tap X (W 1 2) 1 2 h w o
    + tap X (W 2 0) 2 0 h w o + tap X (W 2 1) 2 1 h w o + tap X (W 2 2) 2 2 h w o + b o) 0

/-- The score of class `k`, from a pixel's 256 hidden values `y`. -/
def score (y : Fin 256 → EReal) (V : Fin 256 → Fin 65 → EReal) (d : Fin 65 → EReal) (k : Fin 65) : EReal :=
  (∑ o : Fin 256, y o * V o k) + d k

/-- The largest of 65 scores. -/
def top (s : Fin 65 → EReal) : EReal :=
  Finset.univ.fold max (Ideal.ofBits .f32 0xFF800000#32) s

/-- The softmax of 65 scores, at class `k`. -/
def soft (s : Fin 65 → EReal) (k : Fin 65) : EReal :=
  Ideal.div (Ideal.exp (s k - top s)) (∑ l : Fin 65, Ideal.exp (s l - top s))

/-- The picture of image `n`: entry `(r, s)` is the probability of class `8 (r mod 8) + s mod 8` at pixel
    `(r / 8, s / 8)`. The last of the 65 classes is not shown. -/
def picture (X : Fin 8 → Fin 256 → Fin 64 → Fin 64 → EReal) (W : Fin 3 → Fin 3 → Fin 256 → Fin 256 → EReal)
    (b : Fin 256 → EReal) (V : Fin 256 → Fin 65 → EReal) (d : Fin 65 → EReal) (n : Fin 8) (r s : Fin 512) : EReal :=
  soft (score (hidden (X n) W b ⟨r.val / 8, by omega⟩ ⟨s.val / 8, by omega⟩) V d)
    ⟨r.val % 8 * 8 + s.val % 8, by omega⟩

end Detector
-- ==== Proof.Body.lean ====
/-
  What the kernel computes for one image. The image comes as 4096 rows, one per pixel, of 256 channels; the 3x3
  convolution is nine matrix products whose rows are then moved by the tap's distance. A row moved past the left or
  the right edge of the image would read a pixel of the neighbouring line: the kernel clears the last column before a
  product whose tap lies to the left and the first column before one whose tap lies to the right. Row by row this is
  the convolution with a border of zeros (`block_at`).
-/
module

public import proofs.«01_k».proof.Proof.Gen.KernelIdeal.Skeleton
public import proofs.«01_k».proof.Proof.Spec
public import Idealize.ShloMosaic.Lib.Pointwise

@[expose] public section

set_option maxRecDepth 16384

noncomputable section

namespace Body

open Idealize.ShloMosaic Idealize.ShloMosaic.TcCoe Cert.KernelIdeal Cert.KernelIdeal.Gen Detector

/-- The image that 4096 rows of pixels hold: pixel `(h, w)` is row `64 h + w`. -/
def img (x : FVec Ideal S1x4096x256 .f32) (c : Fin 256) (h w : Fin 64) : EReal :=
  x (ix3 0 ⟨64 * h.val + w.val, by omega⟩ c)

/-- The line of the pixel in row `p`. -/
def line (p : Fin 4096) : Fin 64 := ⟨p.val / 64, by omega⟩

/-- The column of the pixel in row `p`. -/
def col (p : Fin 4096) : Fin 64 := ⟨p.val % 64, by omega⟩

/-- The tap at `(ky, kx)` of the pixel in row `p` falls on the image. -/
def Inside (p : Fin 4096) (ky kx : ℕ) : Prop :=
  (1 ≤ p.val / 64 + ky ∧ p.val / 64 + ky ≤ 64) ∧ 1 ≤ p.val % 64 + kx ∧ p.val % 64 + kx ≤ 64

/-- Where the tap falls on the image, it reads the pixel `64 (ky - 1) + (kx - 1)` rows further. -/
theorem bordered_inside (x : FVec Ideal S1x4096x256 .f32) (p q : Fin 4096) (c : Fin 256) (ky kx : ℕ)
    (h : Inside p ky kx) (hq : q.val + 65 = p.val + 64 * ky + kx) :
    bordered (img x) c ((line p).val + ky) ((col p).val + kx) = x (ix3 0 q c) := by
  unfold bordered
  refine (dif_pos h).trans ?_
  unfold img
  refine congrArg (fun r => x (ix3 0 r c)) (Fin.ext ?_)
  obtain ⟨⟨h1, h2⟩, h3, h4⟩ := h
  simp only [line, col]
  omega

/-- Where the tap does not fall on the image, it reads the border's zero. -/
theorem bordered_outside (x : FVec Ideal S1x4096x256 .f32) (p : Fin 4096) (c : Fin 256) (ky kx : ℕ)
    (h : ¬ Inside p ky kx) :
    bordered (img x) c ((line p).val + ky) ((col p).val + kx) = 0 := by
  unfold bordered
  exact dif_neg h

/-- A product whose rows are moved is a tap of the convolution: `inn` says that the moved row exists, `q` is its
    source, `M` the rows with some columns cleared. -/
theorem tap_of (x : FVec Ideal S1x4096x256 .f32) (W : Fin 256 → Fin 256 → EReal) (ky kx : ℕ) (p : Fin 4096)
    (o : Fin 256) (M : Fin 4096 → Fin 256 → EReal) (clear : ℕ → Prop) [DecidablePred clear]
    (hM : ∀ q c, M q c = if clear q.val then 0 else x (ix3 0 q c)) (inn : Prop) [Decidable inn]
    (q : inn → Fin 4096) (hq : ∀ h, (q h).val + 65 = p.val + 64 * ky + kx)
    (hin : ∀ h, ¬ clear (q h).val → Inside p ky kx) (hclear : ∀ h, clear (q h).val → ¬ Inside p ky kx)
    (hout : ¬ inn → ¬ Inside p ky kx) :
    (if h : inn then ∑ c : Fin 256, M (q h) c * W c o else 0) = tap (img x) W ky kx (line p) (col p) o := by
  unfold tap
  by_cases h : inn
  · rw [dif_pos h]
    refine Finset.sum_congr rfl fun c _ => congrArg (· * W c o) ?_
    rw [hM]
    by_cases hc : clear (q h).val
    · rw [if_pos hc, bordered_outside x p c ky kx (hclear h hc)]
    · rw [if_neg hc, bordered_inside x p (q h) c ky kx (hin h hc) (hq h)]
  · rw [dif_neg h]
    refine (Finset.sum_eq_zero fun c _ => ?_).symm
    rw [bordered_outside x p c ky kx (hout h), zero_mul]

/-- `tap_of` where the case distinction is written the other way round: `out` says that the moved row does not
    exist. -/
theorem tap_of_not (x : FVec Ideal S1x4096x256 .f32) (W : Fin 256 → Fin 256 → EReal) (ky kx : ℕ) (p : Fin 4096)
    (o : Fin 256) (M : Fin 4096 → Fin 256 → EReal) (clear : ℕ → Prop) [DecidablePred clear]
    (hM : ∀ q c, M q c = if clear q.val then 0 else x (ix3 0 q c)) (out : Prop) [Decidable out]
    (q : ¬ out → Fin 4096) (hq : ∀ h, (q h).val + 65 = p.val + 64 * ky + kx)
    (hin : ∀ h, ¬ clear (q h).val → Inside p ky kx) (hclear : ∀ h, clear (q h).val → ¬ Inside p ky kx)
    (hout : out → ¬ Inside p ky kx) :
    (if h : out then 0 else ∑ c : Fin 256, M (q h) c * W c o) = tap (img x) W ky kx (line p) (col p) o := by
  rw [← tap_of x W ky kx p o M clear hM (¬ out) q hq hin hclear fun h => hout (not_not.mp h)]
  by_cases h : out
  · rw [dif_pos h, dif_neg (not_not_intro h)]
  · rw [dif_neg h, dif_pos h]

/-- The kernel's column counter: row `p` is in column `p mod 64`, and a choice made where the counter is `n` is made
    there. -/
theorem counter_select (p : Fin 4096) (n : ℕ) (hn : n < 64) (a b : EReal) :
    Scalar.select (IntOp.cmpi .eq (IntOp.remsi .vector (BitVec.ofNat 32 p.val) (BitVec.ofNat 32 64))
      (BitVec.ofNat 32 n)) a b = if p.val % 64 = n then a else b := by
  have hp := p.isLt
  unfold Scalar.select
  refine if_congr (IntOp.cmpi_eq.trans ?_) rfl rfl
  rw [← BitVec.toNat_inj, IntOp.toNat_remsi .vector (by rw [BitVec.toNat_ofNat]; omega) 64 (by omega) (by omega),
    BitVec.toNat_ofNat, BitVec.toNat_ofNat, Nat.mod_eq_of_lt (by omega : p.val < 2 ^ 32),
    Nat.mod_eq_of_lt (by omega : n < 2 ^ 32)]

/-- The rows of the image. -/
theorem rows_at (x : FVec Ideal S1x4096x256 .f32) (p : Fin 4096) (c : Fin 256) :
    k0_pay2 (F := Ideal) x (ix2 p c) = x (ix3 0 p c) := by
  pointwise [k0_pay2]

/-- The rows with the last column cleared. -/
theorem rowsLeft_at (x : FVec Ideal S1x4096x256 .f32) (p : Fin 4096) (c : Fin 256) :
    k0_pay4 (F := Ideal) x (ix2 p c) = if p.val % 64 = 63 then 0 else x (ix3 0 p c) := by
  pointwise [k0_pay4, k0_pay3, k0_pay2]
  exact counter_select p 63 (by omega) _ _

/-- The rows with the first column cleared. -/
theorem rowsRight_at (x : FVec Ideal S1x4096x256 .f32) (p : Fin 4096) (c : Fin 256) :
    k0_pay5 (F := Ideal) x (ix2 p c) = if p.val % 64 = 0 then 0 else x (ix3 0 p c) := by
  pointwise [k0_pay5, k0_pay3, k0_pay2]
  exact counter_select p 0 (by omega) _ _

/-- The word zero, made a number. -/
theorem zero_word : (((0#32).toInt : ℝ) : EReal) = 0 := by
  rw [show (0#32).toInt = 0 from rfl]; norm_num

/-- The channel matrix of one tap. -/
def mat (v : FVec Ideal S1x256x256 .bf16) (c o : Fin 256) : EReal := v (ix3 0 c o)

/-- A tap of the middle column reads the rows as they are. -/
theorem plain_at (x : FVec Ideal S1x4096x256 .f32) (p : Fin 4096) (c : Fin 256) :
    k0_pay2 (F := Ideal) x (ix2 p c) = if False then 0 else x (ix3 0 p c) := by
  rw [if_neg not_false, rows_at]

/-- The first two taps. -/
theorem taps01_at (x : FVec Ideal S1x4096x256 .f32) (w0 w1 : FVec Ideal S1x256x256 .bf16) (p : Fin 4096)
    (o : Fin 256) :
    k0_pay6 (F := Ideal) x w0 w1 (ix2 p o)
      = tap (img x) (mat w0) 0 0 (line p) (col p) o + tap (img x) (mat w1) 0 1 (line p) (col p) o := by
  have hp := p.isLt
  pointwise [k0_pay6]
  rw [zero_word]
  refine congrArg₂ (· + ·) ?_ ?_
  · exact tap_of_not x (mat w0) 0 0 p o (fun q c => k0_pay4 (F := Ideal) x (ix2 q c)) (fun n => n % 64 = 63)
      (rowsLeft_at x) (p.val < 65) (fun h => ⟨p.val - 65, by omega⟩) (fun h => by simp only; omega)
      (fun h hc => by simp only [Inside] at hc ⊢; omega) (fun h hc => by simp only [Inside] at hc ⊢; omega)
      (fun h => by simp only [Inside]; omega)
  · exact tap_of_not x (mat w1) 0 1 p o (fun q c => k0_pay2 (F := Ideal) x (ix2 q c)) (fun n => False)
      (plain_at x) (p.val < 64) (fun h => ⟨p.val - 64, by omega⟩) (fun h => by simp only; omega)
      (fun h hc => by simp only [Inside] at hc ⊢; omega) (fun h hc => hc.elim)
      (fun h => by simp only [Inside]; omega)

/-- The next five taps, added to what the first two gave. -/
theorem taps2to6_at (x : FVec Ideal S1x4096x256 .f32) (a : FVec Ideal S4096x256 .f32)
    (w2 w3 w4 w5 w6 : FVec Ideal S1x256x256 .bf16) (p : Fin 4096) (o : Fin 256) :
    k0_pay8 (F := Ideal) (k0_pay2 x) (k0_pay4 x) (k0_pay5 x) a (k0_pay7 w2) (constant S4096x256 .f32 0x00000000#32)
        w3 w4 w5 w6 (ix2 p o)
      = a (ix2 p o) + tap (img x) (mat w2) 0 2 (line p) (col p) o + tap (img x) (mat w3) 1 0 (line p) (col p) o
        + tap (img x) (mat w4) 1 1 (line p) (col p) o + tap (img x) (mat w5) 1 2 (line p) (col p) o
        + tap (img x) (mat w6) 2 0 (line p) (col p) o := by
  have hp := p.isLt
  pointwise [k0_pay8, k0_pay7]
  rw [zero_word]
  refine congrArg₂ (· + ·) (congrArg₂ (· + ·) (congrArg₂ (· + ·) (congrArg₂ (· + ·) (congrArg₂ (· + ·) rfl ?_) ?_) ?_)
    ?_) ?_
  · exact tap_of_not x (mat w2) 0 2 p o (fun q c => k0_pay5 (F := Ideal) x (ix2 q c)) (fun n => n % 64 = 0)
      (rowsRight_at x) (p.val < 63) (fun h => ⟨p.val - 63, by omega⟩) (fun h => by simp only; omega)
      (fun h hc => by simp only [Inside] at hc ⊢; omega) (fun h hc => by simp only [Inside] at hc ⊢; omega)
      (fun h => by simp only [Inside]; omega)
  · exact tap_of_not x (mat w3) 1 0 p o (fun q c => k0_pay4 (F := Ideal) x (ix2 q c)) (fun n => n % 64 = 63)
      (rowsLeft_at x) (p.val < 1) (fun h => ⟨p.val - 1, by omega⟩) (fun h => by simp only; omega)
      (fun h hc => by simp only [Inside] at hc ⊢; omega) (fun h hc => by simp only [Inside] at hc ⊢; omega)
      (fun h => by simp only [Inside]; omega)
  · exact (dif_pos trivial).symm.trans
      (tap_of x (mat w4) 1 1 p o (fun q c => k0_pay2 (F := Ideal) x (ix2 q c)) (fun n => False)
        (plain_at x) True (fun h => p) (fun h => by omega) (fun h hc => by simp only [Inside]; omega)
        (fun h hc => hc.elim) (fun h => (h trivial).elim))
  · exact tap_of x (mat w5) 1 2 p o (fun q c => k0_pay5 (F := Ideal) x (ix2 q c)) (fun n => n % 64 = 0)
      (rowsRight_at x) (p.val < 4095) (fun h => ⟨1 + p.val, by omega⟩) (fun h => by simp only; omega)
      (fun h hc => by simp only [Inside] at hc ⊢; omega) (fun h hc => by simp only [Inside] at hc ⊢; omega)
      (fun h => by simp only [Inside]; omega)
  · exact tap_of x (mat w6) 2 0 p o (fun q c => k0_pay4 (F := Ideal) x (ix2 q c)) (fun n => n % 64 = 63)
      (rowsLeft_at x) (p.val < 4033) (fun h => ⟨63 + p.val, by omega⟩) (fun h => by simp only; omega)
      (fun h hc => by simp only [Inside] at hc ⊢; omega) (fun h hc => by simp only [Inside] at hc ⊢; omega)
      (fun h => by simp only [Inside]; omega)

/-- From the sum of the first seven taps to the class probabilities of each pixel. -/
theorem probs_at (x : FVec Ideal S1x4096x256 .f32) (a : FVec Ideal S4096x256 .f32)
    (w7 w8 : FVec Ideal S1x256x256 .bf16) (b : FVec Ideal S1x256 .f32) (v : FVec Ideal S256x65 .bf16)
    (d : FVec Ideal S1x65 .f32) (p : Fin 4096) (k : Fin 64) :
    k0_pay10 (F := Ideal) (k0_pay2 x) (k0_pay5 x) a (k0_pay9 w7) (constant S4096x256 .f32 0x00000000#32) w8 b v d
        (ix2 p k)
      = soft (score (fun o => max (a (ix2 p o) + tap (img x) (mat w7) 2 1 (line p) (col p) o
          + tap (img x) (mat w8) 2 2 (line p) (col p) o + b (ix2 0 o)) 0) (fun o k => v (ix2 o k))
          (fun k => d (ix2 0 k))) ⟨k.val, by omega⟩ := by
  have hp := p.isLt
  have h7 : ∀ o, (if h : p.val < 4032 then ∑ c : Fin 256, k0_pay2 (F := Ideal) x (ix2 ⟨64 + p.val, by omega⟩ c)
      * w7 (ix3 0 c o) else 0) = tap (img x) (mat w7) 2 1 (line p) (col p) o := fun o =>
    tap_of x (mat w7) 2 1 p o (fun q c => k0_pay2 (F := Ideal) x (ix2 q c)) (fun n => False)
      (plain_at x) (p.val < 4032) (fun h => ⟨64 + p.val, by omega⟩) (fun h => by simp only; omega)
      (fun h hc => by simp only [Inside] at hc ⊢; omega) (fun h hc => hc.elim)
      (fun h => by simp only [Inside]; omega)
  have h8 : ∀ o, (if h : p.val < 4031 then ∑ c : Fin 256, k0_pay5 (F := Ideal) x (ix2 ⟨65 + p.val, by omega⟩ c)
      * w8 (ix3 0 c o) else 0) = tap (img x) (mat w8) 2 2 (line p) (col p) o := fun o =>
    tap_of x (mat w8) 2 2 p o (fun q c => k0_pay5 (F := Ideal) x (ix2 q c)) (fun n => n % 64 = 0)
      (rowsRight_at x) (p.val < 4031) (fun h => ⟨65 + p.val, by omega⟩) (fun h => by simp only; omega)
      (fun h hc => by simp only [Inside] at hc ⊢; omega) (fun h hc => by simp only [Inside] at hc ⊢; omega)
      (fun h => by simp only [Inside]; omega)
  pointwise [k0_pay10, k0_pay9]
  simp only [zero_word, h7, h8]
  rfl

/-- One pixel's 64 kept entries in the picture: entry `(r, s)` of the picture is class `8 (r mod 8) + s mod 8` of pixel
    `(r / 8, s / 8)`. -/
theorem shuffle_at (y : FVec Ideal S4096x64 .bf16) (r s : Fin 512) :
    k0_pay1 (F := Ideal) y (ix3 0 r s)
      = y (ix2 ⟨r.val / 8 * 64 + s.val / 8, by omega⟩ ⟨r.val % 8 * 8 + s.val % 8, by omega⟩) := by
  pointwise [k0_pay1]

/-- What a grid point leaves in the scratch rows, from the point's image and the filters. -/
def block (x : FVec Ideal S1x4096x256 .f32) (w : Fin 3 → Fin 3 → FVec Ideal S1x256x256 .bf16)
    (b : FVec Ideal S1x256 .f32) (v : FVec Ideal S256x65 .bf16) (d : FVec Ideal S1x65 .f32) :
    FVec Ideal S4096x64 .bf16 :=
  k0_pay10 (k0_pay2 x) (k0_pay5 x)
    (k0_pay8 (k0_pay2 x) (k0_pay4 x) (k0_pay5 x) (k0_pay6 x (w 0 0) (w 0 1)) (k0_pay7 (w 0 2))
      (constant S4096x256 .f32 0x00000000#32) (w 1 0) (w 1 1) (w 1 2) (w 2 0))
    (k0_pay9 (w 2 1)) (constant S4096x256 .f32 0x00000000#32) (w 2 2) b v d

/-- The scratch rows hold the class probabilities: row `p`, class `k`. -/
theorem block_at (x : FVec Ideal S1x4096x256 .f32) (w : Fin 3 → Fin 3 → FVec Ideal S1x256x256 .bf16)
    (b : FVec Ideal S1x256 .f32) (v : FVec Ideal S256x65 .bf16) (d : FVec Ideal S1x65 .f32) (p : Fin 4096)
    (k : Fin 64) :
    block x w b v d (ix2 p k)
      = soft (score (hidden (img x) (fun ky kx => mat (w ky kx)) (fun o => b (ix2 0 o)) (line p) (col p))
          (fun o k => v (ix2 o k)) (fun k => d (ix2 0 k))) ⟨k.val, by omega⟩ := by
  unfold block
  rw [probs_at]
  simp only [taps2to6_at, taps01_at]
  rfl

end Body
-- ==== Proof.Rows.lean ====
/-
  What each grid point leaves: a point that has an image leaves that image's class probabilities in the scratch rows
  (`rows_eq`), and every point but the first leaves the picture of the rows that the point before left (`out_eq`).
-/
module

public import proofs.«01_k».proof.Proof.Gen.KernelIdeal.Frame
public import proofs.«01_k».proof.Proof.Body
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Rows

open Idealize.ShloMosaic Idealize.ShloMosaic.TcCoe Cert.KernelIdeal Cert.KernelIdeal.Gen Body

/-- Channel matrix `i` of the filter, as the kernel loads it. -/
def load (w : FVec Ideal S9x256x256 .bf16) (i : ℕ) (h : ∀ a, ![i, 0, 0] a + S1x256x256.size a ≤ S9x256x256.size a) :
    FVec Ideal S1x256x256 .bf16 :=
  View.ld (Val := Elt Ideal) (e' := .bf16) w (Rect.unit (s := S9x256x256) ![i, 0, 0] S1x256x256.size h)

/-- A loaded channel matrix, entry by entry. -/
theorem mat_load (w : FVec Ideal S9x256x256 .bf16) (i : Fin 9)
    (h : ∀ a, ![i.val, 0, 0] a + S1x256x256.size a ≤ S9x256x256.size a) (c o : Fin 256) :
    mat (load w i.val h) c o = w (ix3 i c o) := by
  unfold mat load
  pointwise

/-- The nine channel matrices of the filter: tap `(ky, kx)` is matrix `3 ky + kx`. -/
def taps (w : FVec Ideal S9x256x256 .bf16) : Fin 3 → Fin 3 → FVec Ideal S1x256x256 .bf16 :=
  ![![load w 0 inb_S9x256x256_S1x256x256_0_0_0, load w 1 inb_S9x256x256_S1x256x256_1_0_0,
      load w 2 inb_S9x256x256_S1x256x256_2_0_0],
    ![load w 3 inb_S9x256x256_S1x256x256_3_0_0, load w 4 inb_S9x256x256_S1x256x256_4_0_0,
      load w 5 inb_S9x256x256_S1x256x256_5_0_0],
    ![load w 6 inb_S9x256x256_S1x256x256_6_0_0, load w 7 inb_S9x256x256_S1x256x256_7_0_0,
      load w 8 inb_S9x256x256_S1x256x256_8_0_0]]

/-- The channel matrix of each tap, entry by entry. -/
theorem mat_taps (w : FVec Ideal S9x256x256 .bf16) (ky kx : Fin 3) (c o : Fin 256) :
    mat (taps w ky kx) c o = w (ix3 ⟨3 * ky.val + kx.val, by omega⟩ c o) := by
  fin_cases ky <;> fin_cases kx
  · exact mat_load w 0 _ c o
  · exact mat_load w 1 _ c o
  · exact mat_load w 2 _ c o
  · exact mat_load w 3 _ c o
  · exact mat_load w 4 _ c o
  · exact mat_load w 5 _ c o
  · exact mat_load w 6 _ c o
  · exact mat_load w 7 _ c o
  · exact mat_load w 8 _ c o

variable (m : (ℓ : Loc nD τ sig) → Buf (Elt Ideal) ℓ) (c : Dev nD)

/-- A point that has an image leaves the image's class probabilities in the scratch rows. -/
theorem rows_eq (t : Fin cfg0.N) (h : t.val < 8) :
    (outsAt0 m c t.val t.isLt).2
      = block (iblk m c 0 t) (taps (iblk m c 1 t)) (iblk m c 2 t) (iblk m c 3 t) (iblk m c 4 t) := by
  by_cases h0 : 1 ≤ t.val
  · rw [outsAt0_B m c t h0 h]
    dsimp only
    frame_out
    rfl
  · rw [outsAt0_A m c t h0 h]
    dsimp only
    frame_out
    rfl

/-- Every point but the first leaves the picture of the rows that the point before left. -/
theorem out_eq (t : Fin cfg0.N) (h : 1 ≤ t.val) :
    (outsAt0 m c t.val t.isLt).1
      = k0_pay1 (outsAt0 m c (t.val - 1) (Nat.lt_of_le_of_lt (Nat.sub_le _ _) t.isLt)).2 := by
  by_cases h1 : t.val < 8
  · rw [outsAt0_B m c t h h1]
    dsimp only
    frame_out
    simp only [read_unread_whole]
  · rw [outsAt0_C m c t h h1]
    dsimp only
    frame_out
    simp only [read_unread_whole]

end Rows
-- ==== Proof.OutArray.lean ====
/-
  What the kernel's output array holds after the grid: image `n` is the picture that the mathematics gives from the
  features and the filters (`array_eq`). The operands that the kernel stages are read back to the arguments.
-/
module

public import proofs.«01_k».proof.Proof.Rows
public import Idealize.ShloMosaic.Lib.StableHlo.ReadAt

@[expose] public section

set_option maxRecDepth 16384

noncomputable section

namespace OutArray

open Idealize.ShloMosaic Idealize.ShloMosaic.TcCoe Cert.KernelIdeal Cert.KernelIdeal.Gen Body Rows Detector
open Idealize.ShloMosaic.Pipeline (Dat)

variable (m : (ℓ : Loc nD τ sig) → Buf (Elt Ideal) ℓ) (c : Dev nD)

/-- The features. -/
def feats : FVec Ideal S8x256x64x64 .f32 := m ((c.tc : Thread nD τ).loc main_arg0)
/-- The 3x3 filter. -/
def filter1 : FVec Ideal S256x256x3x3 .f32 := m ((c.tc : Thread nD τ).loc main_arg1)
/-- The first bias. -/
def bias1 : FVec Ideal S256 .f32 := m ((c.tc : Thread nD τ).loc main_arg2)
/-- The 1x1 filter. -/
def filter2 : FVec Ideal S65x256x1x1 .f32 := m ((c.tc : Thread nD τ).loc main_arg3)
/-- The second bias. -/
def bias2 : FVec Ideal S65 .f32 := m ((c.tc : Thread nD τ).loc main_arg4)

/-- The picture of image `n` from the arguments. -/
def pic (n : Fin 8) (r s : Fin 512) : EReal :=
  picture (fun n ch i j => feats m c (ix4 n ch i j)) (fun ky kx ch o => filter1 m c (ix4 o ch ky kx))
    (fun o => bias1 m c (ix1 o)) (fun o k => filter2 m c (ix4 k o 0 0)) (fun k => bias2 m c (ix1 k)) n r s

/-- The point of image `n`. -/
def pt (n : Fin 8) : Fin cfg0.N := ⟨n.val, Nat.lt_of_lt_of_eq (by omega : n.val < 9) N_0.symm⟩

/-! ## The operands, as they lie before the grid -/

/-- The features, pixel by pixel. -/
theorem v1_at (n : Fin 8) (p : Fin 4096) (ch : Fin 256) :
    (V m c main_v1 : FVec Ideal S8x4096x256 .f32) (ix3 n p ch) = feats m c (ix4 n ch (line p) (col p)) := by
  unfold V V0 feats line col
  after_reads_at

/-- The 3x3 filter, one channel matrix per tap. -/
theorem v4_at (i : Fin 9) (ch o : Fin 256) :
    (V m c main_v4 : FVec Ideal S9x256x256 .bf16) (ix3 i ch o)
      = filter1 m c (ix4 o ch ⟨i.val / 3, by omega⟩ ⟨i.val % 3, by omega⟩) := by
  unfold V V0 filter1
  after_reads_at

/-- The first bias. -/
theorem v8_at (o : Fin 256) :
    (V m c main_v8 : FVec Ideal S1x256 .f32) (ix2 0 o) = bias1 m c (ix1 o) := by
  unfold V V0 bias1
  after_reads_at

/-- The 1x1 filter. -/
theorem v7_at (o : Fin 256) (k : Fin 65) :
    (V m c main_v7 : FVec Ideal S256x65 .bf16) (ix2 o k) = filter2 m c (ix4 k o 0 0) := by
  unfold V V0 filter2
  after_reads_at

/-- The second bias. -/
theorem v9_at (k : Fin 65) :
    (V m c main_v9 : FVec Ideal S1x65 .f32) (ix2 0 k) = bias2 m c (ix1 k) := by
  unfold V V0 bias2
  after_reads_at

/-! ## The blocks that the points stage -/

/-- The point of image `n` stages block `n` of the features. -/
theorem index0 : ∀ n : Fin 8, win0_0.index (pt n) 0 = n.val ∧ win0_0.index (pt n) 1 = 0
    ∧ win0_0.index (pt n) 2 = 0 := by decide +kernel

/-- The filters and the biases are staged whole. -/
theorem index1 : ∀ t : Fin cfg0.N, win0_1.index t 0 = 0 ∧ win0_1.index t 1 = 0 ∧ win0_1.index t 2 = 0
    ∧ win0_2.index t 0 = 0 ∧ win0_2.index t 1 = 0 ∧ win0_3.index t 0 = 0 ∧ win0_3.index t 1 = 0
    ∧ win0_4.index t 0 = 0 ∧ win0_4.index t 1 = 0 := by decide +kernel

/-- A point that writes its picture back comes after the first, and writes the block of the image before. -/
theorem index5 : ∀ t : Fin cfg0.N, (cfg0.win 5).flush t = true → 1 ≤ t.val ∧ win0_5.index t 0 = t.val - 1
    ∧ win0_5.index t 1 = 0 ∧ win0_5.index t 2 = 0 := by decide +kernel

/-- The image that a point stages. -/
theorem staged0 (n : Fin 8) (p : Fin 4096) (ch : Fin 256) :
    (iblk m c 0 (pt n) : FVec Ideal S1x4096x256 .f32) (ix3 0 p ch) =
    (V m c main_v1 : FVec Ideal S8x4096x256 .f32) (ix3 n p ch) := by
  blk_ext [iblk, index0 n]

/-- The 3x3 filter as it is staged. -/
theorem staged1 (t : Fin cfg0.N) (i : Fin 9) (ch o : Fin 256) :
    (iblk m c 1 t : FVec Ideal S9x256x256 .bf16) (ix3 i ch o)
      = (V m c main_v4 : FVec Ideal S9x256x256 .bf16) (ix3 i ch o) := by
  blk_ext [iblk, index1 t]

/-- The first bias as it is staged. -/
theorem staged2 (t : Fin cfg0.N) (o : Fin 256) :
    (iblk m c 2 t : FVec Ideal S1x256 .f32) (ix2 0 o) = bias1 m c (ix1 o) := by
  refine Eq.trans (b := (V m c main_v8 : FVec Ideal S1x256 .f32) (ix2 0 o)) ?_ (v8_at m c o)
  blk_ext [iblk, index1 t]

/-- The 1x1 filter as it is staged. -/
theorem staged3 (t : Fin cfg0.N) (o : Fin 256) (k : Fin 65) :
    (iblk m c 3 t : FVec Ideal S256x65 .bf16) (ix2 o k) = filter2 m c (ix4 k o 0 0) := by
  refine Eq.trans (b := (V m c main_v7 : FVec Ideal S256x65 .bf16) (ix2 o k)) ?_ (v7_at m c o k)
  blk_ext [iblk, index1 t]

/-- The second bias as it is staged. -/
theorem staged4 (t : Fin cfg0.N) (k : Fin 65) :
    (iblk m c 4 t : FVec Ideal S1x65 .f32) (ix2 0 k) = bias2 m c (ix1 k) := by
  refine Eq.trans (b := (V m c main_v9 : FVec Ideal S1x65 .f32) (ix2 0 k)) ?_ (v9_at m c k)
  blk_ext [iblk, index1 t]

/-! ## The rows and the pictures -/

/-- The image of point `n`, as the mathematics takes it. -/
theorem img_staged (n : Fin 8) :
    img (iblk m c 0 (pt n)) = fun ch i j => feats m c (ix4 n ch i j) := by
  funext ch i j
  unfold img
  rw [staged0, v1_at]
  refine congrArg₂ (fun a b => feats m c (ix4 n ch a b)) (Fin.ext ?_) (Fin.ext ?_)
  · simp only [line]; omega
  · simp only [col]; omega

/-- The filter of any point, as the mathematics takes it. -/
theorem mat_staged (t : Fin cfg0.N) :
    (fun ky kx => mat (taps (iblk m c 1 t) ky kx)) = fun ky kx ch o => filter1 m c (ix4 o ch ky kx) := by
  funext ky kx ch o
  rw [mat_taps, staged1, v4_at]
  refine congrArg₂ (fun a b => filter1 m c (ix4 o ch a b)) (Fin.ext ?_) (Fin.ext ?_)
  · simp only; omega
  · simp only; omega

/-- The scratch rows that the point of image `n` leaves. -/
theorem rows_at (n : Fin 8) (p : Fin 4096) (k : Fin 64) :
    (outsAt0 m c (pt n).val (pt n).isLt).2 (ix2 p k)
      = soft (score (hidden (fun ch i j => feats m c (ix4 n ch i j)) (fun ky kx ch o => filter1 m c (ix4 o ch ky kx))
          (fun o => bias1 m c (ix1 o)) (line p) (col p)) (fun o k => filter2 m c (ix4 k o 0 0))
          (fun k => bias2 m c (ix1 k))) ⟨k.val, by omega⟩ := by
  rw [rows_eq m c (pt n) n.isLt, block_at, img_staged, mat_staged]
  simp only [staged2, staged3, staged4]

/-- The picture that the point after that of image `n` leaves. -/
theorem out_at (t : Fin cfg0.N) (n : Fin 8) (h : t.val = n.val + 1) (r s : Fin 512) :
    (outsAt0 m c t.val t.isLt).1 (ix3 0 r s) = pic m c n r s := by
  have e : (outsAt0 m c (t.val - 1) (Nat.lt_of_le_of_lt (Nat.sub_le _ _) t.isLt)).2
      = (outsAt0 m c (pt n).val (pt n).isLt).2 := by
    have e' : t.val - 1 = (pt n).val := by simp only [pt]; omega
    simp only [e']
  rw [out_eq m c t (by omega), shuffle_at, e, rows_at]
  unfold pic picture
  have hl : line ⟨r.val / 8 * 64 + s.val / 8, by omega⟩ = ⟨r.val / 8, by omega⟩ :=
    Fin.ext (by simp only [line]; omega)
  have hc : col ⟨r.val / 8 * 64 + s.val / 8, by omega⟩ = ⟨s.val / 8, by omega⟩ :=
    Fin.ext (by simp only [col]; omega)
  rw [hl, hc]

/-- After the grid the output array holds the eight pictures. -/
theorem array_eq :
    (dats m 0 c).arrAt 5 cfg0.N = (fun j : S8x512x512.Idx => pic m c (j 0) (j 1) (j 2)) := by
  refine (dats m 0 c).arrAt_eq_of_covers 5 _ (by decide +kernel) fun t hf y => ?_
  obtain ⟨h1, i0, i1, i2⟩ := index5 t hf
  blk_simp
  rw [after0_5]
  have ht : t.val < 9 := Nat.lt_of_lt_of_eq t.isLt N_0
  change S1x512x512.Idx at y
  idx_vars y
  obtain rfl : y0 = 0 := Fin.ext (by omega)
  refine (out_at m c t ⟨t.val - 1, by omega⟩ (by simp only; omega) y1 y2).trans ?_
  refine congr (congrArg₂ (pic m c) (Fin.ext ?_) (Fin.ext ?_)) (Fin.ext ?_)
  all_goals blk_simp [i0, i1, i2]
  rfl

end OutArray
-- ==== Proof.KernelRun.lean ====
/-
  What the kernel's result buffer holds at the end: the output array of the grid, given its channel axis.
-/
module

public import proofs.«01_k».proof.Proof.OutArray

@[expose] public section

set_option maxRecDepth 16384

noncomputable section

namespace KernelRun

open Idealize.ShloMosaic Idealize.ShloMosaic.TcCoe Cert.KernelIdeal Cert.KernelIdeal.Gen OutArray

variable (m : (ℓ : Loc nD τ sig) → Buf (Elt Ideal) ℓ) (c : Dev nD)

/-- The last step, from any contents: the result buffer is the output array with a channel axis of one. -/
theorem last_at (W : Valuation τ sig (Elt Ideal)) (n : Fin 8) (r s : Fin 512) :
    (StableHlo.after ([hostOps1] : List (List (HloOp τ sig (Elt Ideal)))).flatten W (Proc.devRef .tc main_v11)
        : FVec Ideal S8x1x512x512 .f32) (ix4 n 0 r s)
      = (W (Proc.devRef .tc main_v10) : FVec Ideal S8x512x512 .f32) (ix3 n r s) := by
  after_reads_at

/-- Image `n` of the result is the picture of image `n`. -/
theorem result_at (n : Fin 8) (r s : Fin 512) :
    (Pipeline.afterTail₀ cfgs (dats m) 0 (V0 m) [hostOps1] c main_v11 : FVec Ideal S8x1x512x512 .f32) (ix4 n 0 r s)
      = pic m c n r s := by
  have e : Pipeline.withArrays (cfgs 0).spec c (V0 m c) (fun w => (dats m 0 c).arrAt w (cfgs 0).N)
      (Proc.devRef .tc main_v10) = (dats m 0 c).arrAt 5 cfg0.N :=
    Pipeline.withArrays_arr (cfgs 0).spec (by decide) c (V0 m c) _ 5
  unfold Pipeline.afterTail₀
  rw [last_at]
  refine (congrFun (e.trans (array_eq m c)) (ix3 n r s)).trans ?_
  rfl

end KernelRun
-- ==== Proof.RefTerm.lean ====
/-
  The reference's result as a composition of named steps on whole arrays: the nine taps of the padded convolution as
  nine contractions over the channels, bias, rectifier, the 1x1 convolution, the softmax over the classes, the last
  class dropped and the classes spread over the picture.
-/
module

public import proofs.«01_k».proof.Proof.Gen.ReferenceIdeal.Run
public import Idealize.ShloMosaic.Lib.Pointwise

@[expose] public section

set_option maxRecDepth 16384

noncomputable section

namespace RefTerm

open Idealize.ShloMosaic Idealize.ShloMosaic.TcCoe Cert.ReferenceIdeal Cert.ReferenceIdeal.Gen

/-- The features with a border of zeros. -/
def padded (x : FVec Ideal S8x256x64x64 .f32) : FVec Ideal S8x256x66x66 .f32 :=
  pad S8x256x66x66 ![0, 0, 1, 1] ![0, 0, 1, 1] ![0, 0, 0, 0] x (sitofp .f32 (constantI S_ 32 0#32))
    pads_S8x256x64x64_S8x256x66x66_000_000_110_110 h_S_

/-- The contraction of one tap: the features moved by `(ky, kx)` against the filter's matrix there. -/
def tapTerm (x : FVec Ideal S8x256x64x64 .f32) (w : FVec Ideal S256x256x3x3 .f32) (ky kx : ℕ)
    (hw : S256x256x3x3.Slices ![0, 0, ky, kx] S256x256x1x1)
    (hx : S8x256x66x66.Slices ![0, 0, ky, kx] S8x256x64x64) : FVec Ideal S8x256x64x64 .f32 :=
  transpose S8x256x64x64 [1, 0, 2, 3]
    (Host.dotGeneral dot_S256x256_S8x256x64x64_S256x8x64x64_1_1_0_023_n_n none
      (shapeCast _ (extractStridedSlice S256x256x1x1 ![0, 0, ky, kx] w hw) shapeCasts_S256x256x1x1_S256x256)
      (extractStridedSlice S8x256x64x64 ![0, 0, ky, kx] (padded x) hx))
    transposes_S256x8x64x64_S8x256x64x64_1_0_2_3

/-- The hidden layer. -/
def hiddenTerm (x : FVec Ideal S8x256x64x64 .f32) (w : FVec Ideal S256x256x3x3 .f32) (b : FVec Ideal S256 .f32) :
    FVec Ideal S8x256x64x64 .f32 :=
  maximumf
    (addf (addf (addf (addf (addf (addf (addf (addf (addf (addf
      (broadcastInDim S8x256x64x64 ![] bcast_S_S8x256x64x64 (constant S_ .f32 0x00000000#32))
      (tapTerm x w 0 0 slices_S256x256x3x3_S256x256x1x1_0_0_0_0 slices_S8x256x66x66_S8x256x64x64_0_0_0_0))
      (tapTerm x w 0 1 slices_S256x256x3x3_S256x256x1x1_0_0_0_1 slices_S8x256x66x66_S8x256x64x64_0_0_0_1))
      (tapTerm x w 0 2 slices_S256x256x3x3_S256x256x1x1_0_0_0_2 slices_S8x256x66x66_S8x256x64x64_0_0_0_2))
      (tapTerm x w 1 0 slices_S256x256x3x3_S256x256x1x1_0_0_1_0 slices_S8x256x66x66_S8x256x64x64_0_0_1_0))
      (tapTerm x w 1 1 slices_S256x256x3x3_S256x256x1x1_0_0_1_1 slices_S8x256x66x66_S8x256x64x64_0_0_1_1))
      (tapTerm x w 1 2 slices_S256x256x3x3_S256x256x1x1_0_0_1_2 slices_S8x256x66x66_S8x256x64x64_0_0_1_2))
      (tapTerm x w 2 0 slices_S256x256x3x3_S256x256x1x1_0_0_2_0 slices_S8x256x66x66_S8x256x64x64_0_0_2_0))
      (tapTerm x w 2 1 slices_S256x256x3x3_S256x256x1x1_0_0_2_1 slices_S8x256x66x66_S8x256x64x64_0_0_2_1))
      (tapTerm x w 2 2 slices_S256x256x3x3_S256x256x1x1_0_0_2_2 slices_S8x256x66x66_S8x256x64x64_0_0_2_2))
      (broadcastInDim S8x256x64x64 ![0, 1, 2, 3] bcast_S1x256x1x1_S8x256x64x64_0_1_2_3
        (broadcastInDim S1x256x1x1 ![1] bcast_S256_S1x256x1x1_1 b)))
    (broadcastInDim S8x256x64x64 ![] bcast_S_S8x256x64x64 (constant S_ .f32 0x00000000#32))

/-- The scores of the 65 classes. -/
def scoreTerm (y : FVec Ideal S8x256x64x64 .f32) (v : FVec Ideal S65x256x1x1 .f32) (d : FVec Ideal S65 .f32) :
    FVec Ideal S8x65x64x64 .f32 :=
  addf (transpose S8x65x64x64 [1, 0, 2, 3]
      (Host.dotGeneral dot_S65x256_S8x256x64x64_S65x8x64x64_1_1_0_023_n_n none
        (shapeCast _ v shapeCasts_S65x256x1x1_S65x256) y)
      transposes_S65x8x64x64_S8x65x64x64_1_0_2_3)
    (broadcastInDim S8x65x64x64 ![0, 1, 2, 3] bcast_S1x65x1x1_S8x65x64x64_0_1_2_3
      (broadcastInDim S1x65x1x1 ![1] bcast_S65_S1x65x1x1_1 d))

/-- The exponentials of the scores, each less the largest of its pixel. -/
def expTerm (s : FVec Ideal S8x65x64x64 .f32) : FVec Ideal S8x65x64x64 .f32 :=
  Host.exp (subf s (broadcastInDim S8x65x64x64 ![0, 1, 2, 3] bcast_S8x1x64x64_S8x65x64x64_0_1_2_3
    (broadcastInDim S8x1x64x64 ![0, 2, 3] bcast_S8x64x64_S8x1x64x64_0_2_3
      (maximumf (broadcastInDim S8x64x64 ![] bcast_S_S8x64x64 (constant S_ .f32 0xFF800000#32))
        (Host.reduce FloatOps.maximumf s (constant S_ .f32 0xFF800000#32) reducesTo_S8x65x64x64_S8x64x64_d1 h_S_)))))

/-- The class probabilities. -/
def softTerm (s : FVec Ideal S8x65x64x64 .f32) : FVec Ideal S8x65x64x64 .f32 :=
  Host.divf (expTerm s) (broadcastInDim S8x65x64x64 ![0, 1, 2, 3] bcast_S8x1x64x64_S8x65x64x64_0_1_2_3
    (broadcastInDim S8x1x64x64 ![0, 2, 3] bcast_S8x64x64_S8x1x64x64_0_2_3
      (Host.reduceAdd (expTerm s) (constant S_ .f32 0x00000000#32) reducesTo_S8x65x64x64_S8x64x64_d1 h_S_)))

/-- The picture of the first 64 classes. -/
def pictureTerm (p : FVec Ideal S8x65x64x64 .f32) : FVec Ideal S8x1x512x512 .f32 :=
  shapeCast _ (transpose S8x1x64x8x64x8 [0, 1, 4, 2, 5, 3]
      (shapeCast _ (extractStridedSlice S8x64x64x64 ![0, 0, 0, 0] p slices_S8x65x64x64_S8x64x64x64_0_0_0_0)
        shapeCasts_S8x64x64x64_S8x1x8x8x64x64)
      transposes_S8x1x8x8x64x64_S8x1x64x8x64x8_0_1_4_2_5_3)
    shapeCasts_S8x1x64x8x64x8_S8x1x512x512

/-- The reference's result is the picture of the softmax of the scores of the hidden layer. -/
theorem result_eq (m : (ℓ : Loc nD τ sig) → Buf (Elt Ideal) ℓ) (c : Dev nD) :
    Value.res_main_v80 m c
      = pictureTerm (softTerm (scoreTerm
          (hiddenTerm (m ((c.tc : Thread nD τ).loc main_arg0)) (m ((c.tc : Thread nD τ).loc main_arg1))
            (m ((c.tc : Thread nD τ).loc main_arg2)))
          (m ((c.tc : Thread nD τ).loc main_arg3)) (m ((c.tc : Thread nD τ).loc main_arg4)))) := rfl

end RefTerm
-- ==== Proof.RefValue.lean ====
/-
  What the reference computes, entry by entry: each of its steps read at an index, down to the picture of the detector
  head's mathematics (`result_at`).
-/
module

public import proofs.«01_k».proof.Proof.RefTerm
public import proofs.«01_k».proof.Proof.Spec
public import Idealize.ShloMosaic.Lib.Pointwise

@[expose] public section

set_option maxRecDepth 16384

noncomputable section

namespace RefValue

open Idealize.ShloMosaic Idealize.ShloMosaic.TcCoe Cert.ReferenceIdeal Cert.ReferenceIdeal.Gen Detector RefTerm

/-- The word zero, made a number. -/
theorem zero_word : FloatOps.sitofp (F := Ideal) FTy.f32 0#32 = (0 : EReal) := by
  show (((0#32).toInt : ℝ) : EReal) = 0
  rw [show (0#32).toInt = 0 from rfl]; norm_num

/-- One tap's contraction is the tap of the convolution. -/
theorem tapTerm_at (x : FVec Ideal S8x256x64x64 .f32) (w : FVec Ideal S256x256x3x3 .f32) (ky kx : Fin 3)
    (hw : S256x256x3x3.Slices ![0, 0, ky.val, kx.val] S256x256x1x1)
    (hx : S8x256x66x66.Slices ![0, 0, ky.val, kx.val] S8x256x64x64) (n : Fin 8) (o : Fin 256) (h v : Fin 64) :
    tapTerm x w ky kx hw hx (ix4 n o h v)
      = tap (fun c i j => x (ix4 n c i j)) (fun c o => w (ix4 o c ky kx)) ky kx h v o := by
  pointwise [tapTerm, padded]
  unfold tap
  refine Finset.sum_congr rfl fun c' _ => ?_
  rw [mul_comm]
  refine congrArg (· * w (ix4 o c' ky kx)) ?_
  unfold bordered
  by_cases hin : (1 ≤ ky.val + h.val ∧ ky.val + h.val - 1 < 64) ∧ 1 ≤ kx.val + v.val ∧ kx.val + v.val - 1 < 64
  · rw [dif_pos hin, dif_pos (by omega : (1 ≤ h.val + ky.val ∧ h.val + ky.val ≤ 64) ∧ 1 ≤ v.val + kx.val
      ∧ v.val + kx.val ≤ 64)]
    refine congrArg₂ (fun i j => x (ix4 n c' i j)) (Fin.ext ?_) (Fin.ext ?_)
    · simp only; omega
    · simp only; omega
  · rw [dif_neg hin, dif_neg (by omega : ¬ ((1 ≤ h.val + ky.val ∧ h.val + ky.val ≤ 64) ∧ 1 ≤ v.val + kx.val
      ∧ v.val + kx.val ≤ 64))]
    exact zero_word

/-- The hidden layer, entry by entry. -/
theorem hiddenTerm_at (x : FVec Ideal S8x256x64x64 .f32) (w : FVec Ideal S256x256x3x3 .f32) (b : FVec Ideal S256 .f32)
    (n : Fin 8) (o : Fin 256) (h v : Fin 64) :
    hiddenTerm x w b (ix4 n o h v)
      = hidden (fun c i j => x (ix4 n c i j)) (fun ky kx c o => w (ix4 o c ky kx)) (fun o => b (ix1 o)) h v o := by
  pointwise [hiddenTerm]
  have e := fun (ky kx : Fin 3) hw hx => tapTerm_at x w ky kx hw hx n o h v
  unfold Detector.hidden
  refine congrArg (max · 0) (congrArg (· + b (ix1 o)) ?_)
  refine congrArg₂ (· + ·) (congrArg₂ (· + ·) (congrArg₂ (· + ·) (congrArg₂ (· + ·) (congrArg₂ (· + ·)
    (congrArg₂ (· + ·) (congrArg₂ (· + ·) (congrArg₂ (· + ·) ?_ ?_) ?_) ?_) ?_) ?_) ?_) ?_) ?_
  · exact e 0 0 _ _
  · exact e 0 1 _ _
  · exact e 0 2 _ _
  · exact e 1 0 _ _
  · exact e 1 1 _ _
  · exact e 1 2 _ _
  · exact e 2 0 _ _
  · exact e 2 1 _ _
  · exact e 2 2 _ _

/-- The scores, entry by entry. -/
theorem scoreTerm_at (y : FVec Ideal S8x256x64x64 .f32) (v : FVec Ideal S65x256x1x1 .f32) (d : FVec Ideal S65 .f32)
    (n : Fin 8) (k : Fin 65) (h w : Fin 64) :
    scoreTerm y v d (ix4 n k h w)
      = score (fun o => y (ix4 n o h w)) (fun o k => v (ix4 k o 0 0)) (fun k => d (ix1 k)) k := by
  pointwise [scoreTerm]
  unfold score
  exact congrArg (· + d (ix1 k)) (Finset.sum_congr rfl fun o _ => mul_comm _ _)

/-- Taking the largest of a number and of numbers that already include it changes nothing. -/
theorem max_top (s : Fin 65 → EReal) :
    max (Ideal.ofBits .f32 0xFF800000#32) (Finset.univ.fold max (Ideal.ofBits .f32 0xFF800000#32) s) = top s :=
  max_eq_right (Finset.le_fold_max _ |>.mpr (Or.inl le_rfl))

/-- The softmax, entry by entry. -/
theorem softTerm_at (s : FVec Ideal S8x65x64x64 .f32) (n : Fin 8) (k : Fin 65) (h w : Fin 64) :
    softTerm s (ix4 n k h w) = soft (fun k => s (ix4 n k h w)) k := by
  pointwise [softTerm, expTerm]
  simp only [max_top]
  rfl

/-- The picture, entry by entry. -/
theorem pictureTerm_at (p : FVec Ideal S8x65x64x64 .f32) (n : Fin 8) (r s : Fin 512) :
    pictureTerm p (ix4 n 0 r s)
      = p (ix4 n ⟨r.val % 8 * 8 + s.val % 8, by omega⟩ ⟨r.val / 8, by omega⟩ ⟨s.val / 8, by omega⟩) := by
  pointwise [pictureTerm]

/-- The reference's result, entry by entry. -/
theorem result_at (m : (ℓ : Loc nD τ sig) → Buf (Elt Ideal) ℓ) (c : Dev nD) (x : FVec Ideal S8x256x64x64 .f32)
    (w : FVec Ideal S256x256x3x3 .f32) (b : FVec Ideal S256 .f32) (v : FVec Ideal S65x256x1x1 .f32)
    (d : FVec Ideal S65 .f32) (hx : m ((c.tc : Thread nD τ).loc main_arg0) = x)
    (hw : m ((c.tc : Thread nD τ).loc main_arg1) = w) (hb : m ((c.tc : Thread nD τ).loc main_arg2) = b)
    (hv : m ((c.tc : Thread nD τ).loc main_arg3) = v) (hd : m ((c.tc : Thread nD τ).loc main_arg4) = d)
    (n : Fin 8) (r s : Fin 512) :
    (Value.res_main_v80 m c : FVec Ideal S8x1x512x512 .f32) (ix4 n 0 r s)
      = picture (fun n c i j => x (ix4 n c i j)) (fun ky kx c o => w (ix4 o c ky kx)) (fun o => b (ix1 o))
          (fun o k => v (ix4 k o 0 0)) (fun k => d (ix1 k)) n r s := by
  subst hx hw hb hv hd
  rw [result_eq, pictureTerm_at, softTerm_at]
  simp only [scoreTerm_at, hiddenTerm_at]
  rfl

end RefValue
-- ==== Proof.lean ====
/-
  The detector head's kernel and its reference: the proof of `Cert.Claim`. The kernel, as written and over the extended
  reals, and the reference end with every counter at zero and the arguments unchanged; the kernel over the extended reals
  is the kernel as written; and from the same arguments the kernel and the reference end with the same eight pictures.

  The mathematics is in the modules beside this one: Spec.lean, the head for one image; Body.lean, what one grid point
  computes; Rows.lean, what each point leaves; OutArray.lean, what the output array holds after the grid; KernelRun.lean,
  the kernel's result; RefTerm.lean and RefValue.lean, the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel ends with every counter at zero and its arguments unchanged. -/
theorem frame_kernel [Cert.Kernel.Facts] : Cert.quiescent_Kernel := fun m ρ _ => Cert.Kernel.Gen.frame m ρ

/-- The same of the kernel over the extended reals. -/
theorem frame_kernelIdeal [Cert.KernelIdeal.Facts] : Cert.quiescent_KernelIdeal := fun m ρ _ =>
  Cert.KernelIdeal.Gen.frame m ρ

/-- The same of the reference over the extended reals. -/
theorem frame_reference [Cert.ReferenceIdeal.Facts] : Cert.quiescent_ReferenceIdeal := fun m g _ =>
  θ_run_mono (Cert.ReferenceIdeal.Value.run m g) fun r hr => ⟨fun c => (hr c).2, sem_eq_zero_of_no_sems rfl r.2⟩

/-- From the same arguments the kernel and the reference end with the same result. -/
theorem algebraic [Cert.KernelIdeal.Facts] [Cert.ReferenceIdeal.Facts] :
    Cert.algebraic_KernelIdeal_ReferenceIdeal := by
  pair_intro
  · run_from (Cert.KernelIdeal.Gen.run_main m g) & (Cert.KernelIdeal.Gen.unchanged m g)
  · run_from (Cert.ReferenceIdeal.Value.run m' g')
    obtain ⟨h0, h1, h2, h3, h4⟩ := hagree c
    funext j
    idx_vars j
    obtain rfl : j1 = 0 := Fin.ext (by omega)
    exact (RefValue.result_at m' c _ _ _ _ _ h0 h1 h2 h3 h4 j0 j2 j3).trans (KernelRun.result_at m c j0 j2 j3).symm

/-- All the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
